-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x14336 : Shape := ⟨3, ![4, 2048, 14336]⟩
abbrev S4x2048x1 : Shape := ⟨3, ![4, 2048, 1]⟩
abbrev S14336x3584 : Shape := ⟨2, ![14336, 3584]⟩
abbrev S3584 : Shape := ⟨1, ![3584]⟩
abbrev S4x2048x3584 : Shape := ⟨3, ![4, 2048, 3584]⟩
abbrev S8192x14336 : Shape := ⟨2, ![8192, 14336]⟩
abbrev S64x128 : Shape := ⟨2, ![64, 128]⟩
abbrev S28x128 : Shape := ⟨2, ![28, 128]⟩
abbrev S8192x3584 : Shape := ⟨2, ![8192, 3584]⟩
abbrev S1024x14336 : Shape := ⟨2, ![1024, 14336]⟩
abbrev S14336x512 : Shape := ⟨2, ![14336, 512]⟩
abbrev S1024x512 : Shape := ⟨2, ![1024, 512]⟩
abbrev S8x128 : Shape := ⟨2, ![8, 128]⟩
abbrev S4x128 : Shape := ⟨2, ![4, 128]⟩
abbrev S1x128 : Shape := ⟨2, ![1, 128]⟩
abbrev S128x128 : Shape := ⟨2, ![128, 128]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x14336, .fp8e4m3⟩
  | .hbm, ⟨1, _⟩ => ⟨S4x2048x1, .f32⟩
  | .hbm, ⟨2, _⟩ => ⟨S14336x3584, .fp8e4m3⟩
  | .hbm, ⟨3, _⟩ => ⟨S3584, .f32⟩
  | .hbm, ⟨4, _⟩ => ⟨S4x2048x3584, .bf16⟩
  | .hbm, ⟨5, _⟩ => ⟨S8192x14336, .fp8e4m3⟩
  | .hbm, ⟨6, _⟩ => ⟨S64x128, .f32⟩
  | .hbm, ⟨7, _⟩ => ⟨S28x128, .f32⟩
  | .hbm, ⟨8, _⟩ => ⟨S8192x3584, .bf16⟩
  | .hbm, ⟨9, _⟩ => ⟨S8192x3584, .bf16⟩
  | .hbm, ⟨10, _⟩ => ⟨S4x2048x3584, .bf16⟩
  | .local _ .vmem, ⟨0, _⟩ => ⟨S1024x14336, .fp8e4m3⟩
  | .local _ .vmem, ⟨1, _⟩ => ⟨S1024x14336, .fp8e4m3⟩
  | .local _ .vmem, ⟨2, _⟩ => ⟨S64x128, .f32⟩
  | .local _ .vmem, ⟨3, _⟩ => ⟨S14336x512, .fp8e4m3⟩
  | .local _ .vmem, ⟨4, _⟩ => ⟨S14336x512, .fp8e4m3⟩
  | .local _ .vmem, ⟨5, _⟩ => ⟨S28x128, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4x2048x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 7], ![false, false]⟩

def k0_off1 (i : grid0.Coords) : Fin 2 → Nat :=
  let arg0 : BitVec 32 := BitVec.ofNat 32 (i 0).val
  let c8_i32 : BitVec 32 := 8#32
  let v4 : BitVec 32 := Scalar.muli arg0 c8_i32
  let v5 : Index := Scalar.indexCast v4
  let c0_3 : Index := 0#32
  ![v5.toNat, 0]
def k0_off2 (i : grid0.Coords) : Fin 2 → Nat :=
  let arg1 : BitVec 32 := BitVec.ofNat 32 (i 1).val
  let c4_i32 : BitVec 32 := 4#32
  let v8 : BitVec 32 := Scalar.muli arg1 c4_i32
  let v9 : Index := Scalar.indexCast v8
  let c0_4 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S28x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x14336 : Shape := ⟨3, ![4, 2048, 14336]⟩
abbrev S4x2048x1 : Shape := ⟨3, ![4, 2048, 1]⟩
abbrev S14336x3584 : Shape := ⟨2, ![14336, 3584]⟩
abbrev S3584 : Shape := ⟨1, ![3584]⟩
abbrev S4x2048x3584 : Shape := ⟨3, ![4, 2048, 3584]⟩
abbrev S8192x14336 : Shape := ⟨2, ![8192, 14336]⟩
abbrev S8192x1 : Shape := ⟨2, ![8192, 1]⟩
abbrev S1x3584 : Shape := ⟨2, ![1, 3584]⟩
abbrev S8192x3584 : Shape := ⟨2, ![8192, 3584]⟩

abbrev nBuf : Space → Nat
  | .hbm => 11
  | .vmem => 6
  | .smem => 0
  | _ => 0

abbrev bufTy : (tb : Table) → Fin (tcTables nBuf tb) → BufTy
  | .hbm, ⟨0, _⟩ => ⟨S4x2048x14336, .fp8e4m3⟩
  | .hbm, ⟨1, _⟩ => ⟨S4x2048x1, .f32⟩
  | .hbm, ⟨2, _⟩ => ⟨S14336x3584, .fp8e4m3⟩
  | .hbm, ⟨3, _⟩ => ⟨S3584, .f32⟩
  | .hbm, ⟨4, _⟩ => ⟨S4x2048x3584, .bf16⟩
  | .hbm, ⟨5, _⟩ => ⟨S8192x14336, .fp8e4m3⟩
  | .hbm, ⟨6, _⟩ => ⟨S8192x1, .f32⟩
  | .hbm, ⟨7, _⟩ => ⟨S1x3584, .f32⟩
  | .hbm, ⟨8, _⟩ => ⟨S8192x3584, .bf16⟩
  | .hbm, ⟨9, _⟩ => ⟨S8192x3584, .bf16⟩
  | .hbm, ⟨10, _⟩ => ⟨S4x2048x3584, .bf16⟩
  | .local _ .vmem, ⟨0, _⟩ => ⟨S8192x14336, .fp8e4m3⟩
  | .local _ .vmem, ⟨1, _⟩ => ⟨S8192x1, .f32⟩
  | .local _ .vmem, ⟨2, _⟩ => ⟨S14336x3584, .fp8e4m3⟩
  | .local _ .vmem, ⟨3, _⟩ => ⟨S1x3584, .f32⟩
  | .local _ .vmem, ⟨4, _⟩ => ⟨S8192x3584, .bf16⟩
  | .local _ .vmem, ⟨5, _⟩ => ⟨S8192x3584, .bf16⟩
  | _, _ => ⟨S4x2048x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/-
  ONE 128 × 128 TILE of a block's result. The body stores its 1024 × 512 block as 8 × 4 tiles, every one by the same
  operations at other constant offsets. Here the tile is written once, for a row group `r` and a column group `c`, and
  read at an index over the extended reals.
-/
module

public import proofs.«01_k».proof.Proof.Gen.KernelIdeal.Skeleton
public import Idealize.ShloMosaic.Lib.Pointwise

@[expose] public section

set_option maxRecDepth 16384

noncomputable section

namespace Cert.KernelIdeal.Tile

open Cert.KernelIdeal Cert.KernelIdeal.Gen Idealize.ShloMosaic

variable {F : FTy → Type} [FloatOps F]

/-- The tile of row group `r` and column group `c` (its first row `a` and first column `b`): the product's tile times
    the row scales (row `r` of the scales' block, one scale per sublane after the transpose), times the column scales
    (row `c` of theirs, one per lane), plus the residual's tile, rounded to bf16. -/
def tile (a b r c : Nat) (hA : S1024x512.Slices ![a, b] S128x128) (hr : S8x128.Slices ![r, 0] S1x128)
    (hc : S4x128.Slices ![c, 0] S1x128) (A : FVec F S1024x512 .f32) (xs : Vec F S8x128 .f32) (ws : Vec F S4x128 .f32)
    (res : Vec F S128x128 .bf16) : FVec F S128x128 .bf16 :=
  truncf .bf16 (addf
    (mulf
      (mulf (extractStridedSlice S128x128 ![a, b] A hA)
        (transpose S128x128 [1, 0]
          (broadcastTo S128x128
            (shapeCast S1x128 (extractStridedSlice S1x128 ![r, 0] (shapeCast S8x128 xs shapeCasts_S8x128_S8x128) hr)
              shapeCasts_S1x128_S1x128)
            broadcasts_S1x128_S128x128)
          transposes_S128x128_p1_0_S128x128))
      (broadcastTo S128x128 (extractStridedSlice S1x128 ![c, 0] (shapeCast S4x128 ws shapeCasts_S4x128_S4x128) hc)
        broadcasts_S1x128_S128x128))
    (extf .f32 (shapeCast S128x128 res shapeCasts_S128x128_S128x128) bitsLt_bf16_f32)) bitsLt_bf16_f32

/-- The tile read at row `p`, column `q`, over the extended reals. -/
theorem tile_apply (a b r c : Nat) (hA : S1024x512.Slices ![a, b] S128x128) (hr : S8x128.Slices ![r, 0] S1x128)
    (hc : S4x128.Slices ![c, 0] S1x128) (A : FVec Ideal S1024x512 .f32) (xs : Vec Ideal S8x128 .f32)
    (ws : Vec Ideal S4x128 .f32) (res : Vec Ideal S128x128 .bf16) (p q : Fin 128)
    (ha : a + 128 ≤ 1024) (hb : b + 128 ≤ 512) (hr' : r < 8) (hc' : c < 4) :
    tile a b r c hA hr hc A xs ws res (ix2 p q)
      = A (ix2 ⟨a + p.val, by omega⟩ ⟨b + q.val, by omega⟩) * xs (ix2 ⟨r, hr'⟩ p) * ws (ix2 ⟨c, hc'⟩ q)
        + res (ix2 p q) := by
  pointwise [tile]

/-- The block's product read at an index: the sum over the whole contracted axis. -/
theorem product_apply (x : Vec Ideal S1024x14336 .fp8e4m3) (w : Vec Ideal S14336x512 .fp8e4m3) (p : Fin 1024) (q : Fin 512) :
    k0_pay3 x w (ix2 p q) = ∑ k : Fin 14336, x (ix2 p k) * w (ix2 k q) := by
  pointwise [k0_pay3]

end Cert.KernelIdeal.Tile

end
-- ==== Proof.Block.lean ====
/-
  WHAT ONE GRID POINT COMPUTES. The body's 32 stores are the 8 × 4 tiles of ONE function of the block's index
  (`blockVal`), so the staging buffer holds that function after the body.
-/
module

public import proofs.«01_k».proof.Proof.Tile
public import proofs.«01_k».proof.Proof.Gen.KernelIdeal.Frame
public import Idealize.ShloMosaic.Lib.Pipeline.Value

@[expose] public section

set_option maxRecDepth 16384

noncomputable section

namespace Cert.KernelIdeal.Block

open Cert.KernelIdeal Cert.KernelIdeal.Gen Cert.KernelIdeal.Tile Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The block's result at row `p`, column `q`: the product there, times the scale of the row (kept 128 to a row of its
    block), times the scale of the column (likewise), plus the residual. -/
def blockVal (A : FVec Ideal S1024x512 .f32) (xs : Vec Ideal S8x128 .f32) (ws : Vec Ideal S4x128 .f32)
    (res : Vec Ideal S1024x512 .bf16) (y : S1024x512.Idx) : Elt Ideal .bf16 :=
  A y * xs (ix2 ⟨(y 0).val / 128, Nat.div_lt_of_lt_mul (y 0).isLt⟩ ⟨(y 0).val % 128, Nat.mod_lt _ (by decide)⟩)
    * ws (ix2 ⟨(y 1).val / 128, Nat.div_lt_of_lt_mul (y 1).isLt⟩ ⟨(y 1).val % 128, Nat.mod_lt _ (by decide)⟩) + res y

/-- A store whose payload is the tile at row `a`, column `b`, multiples of 128, of the residual's block there, writes
    `blockVal` read through its rectangle. -/
theorem piece_at {a b : Nat} {inb : ∀ d, (![a, b] : Fin 2 → Nat) d + S128x128.size d ≤ S1024x512.size d}
    {A : FVec Ideal S1024x512 .f32} {xs : Vec Ideal S8x128 .f32} {ws : Vec Ideal S4x128 .f32}
    {res : Vec Ideal S1024x512 .bf16} (v : Vec Ideal S128x128 .bf16)
    (hr : S8x128.Slices ![a / 128, 0] S1x128) (hc : S4x128.Slices ![b / 128, 0] S1x128)
    (hA : S1024x512.Slices ![a, b] S128x128)
    (hv : v = tile a b (a / 128) (b / 128) hA hr hc A xs ws (View.ld res (Rect.unit (s := S1024x512) ![a, b] S128x128.size inb)))
    (ha : a % 128 = 0) (hb : b % 128 = 0) (x : S128x128.Idx) :
    v x = blockVal A xs ws res ((Rect.unit (s := S1024x512) ![a, b] S128x128.size inb).emb x) := by
  have h0 : a + 128 ≤ 1024 := inb 0
  have h1 : b + 128 ≤ 512 := inb 1
  obtain ⟨p, q, rfl⟩ : ∃ p q : Fin 128, x = ix2 p q := ⟨x 0, x 1, by idx_vars x⟩
  have e : (Rect.unit (s := S1024x512) ![a, b] S128x128.size inb).emb (ix2 p q)
      = ix2 ⟨a + p.val, by omega⟩ ⟨b + q.val, by omega⟩ := by
    funext d; apply Fin.ext
    match d with
    | ⟨0, _⟩ => show a + 1 * p.val = _; rw [Nat.one_mul]; rfl
    | ⟨1, _⟩ => show b + 1 * q.val = _; rw [Nat.one_mul]; rfl
  have el : View.ld res (Rect.unit (s := S1024x512) ![a, b] S128x128.size inb) (ix2 p q)
      = res (ix2 ⟨a + p.val, by omega⟩ ⟨b + q.val, by omega⟩) := congrArg res e
  rw [hv, e, tile_apply a b (a / 128) (b / 128) hA hr hc A xs ws _ p q h0 h1 (by omega) (by omega), el]
  unfold blockVal
  congr 3
  · congr 1
    refine (congr (congrArg ix2 (Fin.ext ?_)) (Fin.ext ?_))
    · show a / 128 = (a + p.val) / 128; omega
    · show p.val = (a + p.val) % 128; omega
  · refine (congr (congrArg ix2 (Fin.ext ?_)) (Fin.ext ?_))
    · show b / 128 = (b + q.val) / 128; omega
    · show q.val = (b + q.val) % 128; omega

variable (m : (ℓ : Loc nD τ sig) → Buf (Elt Ideal) ℓ)

/-- After the body at point `t` the result's staging buffer holds `blockVal` of the point's blocks. -/
theorem outsAt0_apply (c : Dev nD) (t : Fin cfg0.N) (y : S1024x512.Idx) :
    outsAt0 m c t y
      = blockVal (k0_pay3 (iblk m c 0 t) (iblk m c 2 t))
          (View.ld (iblk m c 1 t) (Rect.unit (s := S64x128) (k0_off1 (grid0.coords t)) S8x128.size (k0_off1_inb (grid0.coords t))))
          (View.ld (iblk m c 3 t) (Rect.unit (s := S28x128) (k0_off2 (grid0.coords t)) S4x128.size (k0_off2_inb (grid0.coords t))))
          (iblk m c 4 t) y := by
  unfold outsAt0 out0_A_5
  rw [View.read_writes_junk_eq_canon]
  refine View.canon_apply_of_pieces _ _ ?_ y (cover0_A_5 c _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread,
    (hs0_3 t).read_unread, (hs0_4 t).read_unread, View.ld_unit_zero (S := S1024x14336) hz,
    View.ld_unit_zero (S := S14336x512) hz, List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, fun _ h => absurd h List.not_mem_nil⟩ <;>
  exact fun x => piece_at _ (by decide) (by decide) (by decide) rfl rfl rfl x

end Cert.KernelIdeal.Block

end
-- ==== Proof.Spec.lean ====
/-
  THE MATHEMATICS BOTH PROGRAMS COMPUTE, stated once over plain arrays, and how the reshapes around the two regions read at
  an index.
-/
module

public import Idealize.ShloMosaic.Lib.Pointwise
public import Idealize.ShloMosaic.Lib.Pipeline.Value

@[expose] public section

noncomputable section

namespace Cert.Spec

open Idealize.ShloMosaic

/-- The shapes of the arguments and of the result. -/
abbrev SX : Shape := ⟨3, ![4, 2048, 14336]⟩
abbrev SXs : Shape := ⟨3, ![4, 2048, 1]⟩
abbrev SW : Shape := ⟨2, ![14336, 3584]⟩
abbrev SWs : Shape := ⟨1, ![3584]⟩
abbrev SR : Shape := ⟨3, ![4, 2048, 3584]⟩
/-- The result with the two leading axes merged. -/
abbrev S2 : Shape := ⟨2, ![8192, 3584]⟩

/-- The down projection with its residual: the product of token `(b, s)` with column `n` of the weights, times the
    token's scale, times the column's scale, plus the residual. -/
def spec (x : FVec Ideal SX .fp8e4m3) (xs : FVec Ideal SXs .f32) (w : FVec Ideal SW .fp8e4m3) (ws : FVec Ideal SWs .f32)
    (res : FVec Ideal SR .bf16) : FVec Ideal SR .bf16 := fun i =>
  (∑ k : Fin 14336, x (ix3 (n0 := 4) (n1 := 2048) (i 0) (i 1) k) * w (ix2 (n1 := 3584) k (i 2)))
    * xs (ix3 (n0 := 4) (n1 := 2048) (i 0) (i 1) (0 : Fin 1)) * ws (ix1 (n0 := 3584) (i 2)) + res i

/-- An array over tokens `(b, s)`, read by the token's position `2048 * b + s`. -/
def rows (g : FVec Ideal SR .bf16) : FVec Ideal S2 .bf16 := fun i =>
  g (ix3 (n2 := 3584) ⟨(i 0).val / 2048, Nat.div_lt_of_lt_mul (i 0).isLt⟩ ⟨(i 0).val % 2048, Nat.mod_lt _ (by decide)⟩ (i 1))

variable {α : Type}

/-- Merging the two leading axes: row `p` is token `(p / 2048, p % 2048)`. -/
theorem cast_rows {n : Nat} (x : (⟨3, ![4, 2048, n]⟩ : Shape).Idx → α)
    (h : (⟨3, ![4, 2048, n]⟩ : Shape).ShapeCasts ⟨2, ![8192, n]⟩) (p : Fin 8192) (k : Fin n) :
    shapeCast ⟨2, ![8192, n]⟩ x h (ix2 p k)
      = x (ix3 ⟨p.val / 2048, by omega⟩ ⟨p.val % 2048, by omega⟩ k) := by
  refine shapeCast_apply x h _ _ ?_
  rw [Shape.rowMajor_val_three, Shape.rowMajor_val_two]
  show (p.val / 2048 * 2048 + p.val % 2048) * n + k.val = p.val * n + k.val
  rw [Nat.div_add_mod']

/-- The row scales kept 128 to a row. -/
theorem cast_row_scale (x : SXs.Idx → α) (h : SXs.ShapeCasts ⟨2, ![64, 128]⟩) (a : Fin 64) (b : Fin 128) :
    shapeCast ⟨2, ![64, 128]⟩ x h (ix2 a b)
      = x (ix3 ⟨(a.val * 128 + b.val) / 2048, by omega⟩ ⟨(a.val * 128 + b.val) % 2048, by omega⟩ (0 : Fin 1)) := by
  refine shapeCast_apply x h _ _ ?_
  rw [Shape.rowMajor_val_three, Shape.rowMajor_val_two]
  show ((a.val * 128 + b.val) / 2048 * 2048 + (a.val * 128 + b.val) % 2048) * 1 + 0 = a.val * 128 + b.val
  rw [Nat.div_add_mod']; omega

/-- The column scales kept 128 to a row. -/
theorem cast_col_scale (x : SWs.Idx → α) (h : SWs.ShapeCasts ⟨2, ![28, 128]⟩) (a : Fin 28) (b : Fin 128) :
    shapeCast ⟨2, ![28, 128]⟩ x h (ix2 a b) = x (ix1 ⟨a.val * 128 + b.val, by omega⟩) := by
  refine shapeCast_apply x h _ _ ?_
  rw [Shape.rowMajor_val_one, Shape.rowMajor_val_two]
  rfl

/-- The column scales as one row. -/
theorem cast_one_row (x : SWs.Idx → α) (h : SWs.ShapeCasts ⟨2, ![1, 3584]⟩) (b : Fin 3584) :
    shapeCast ⟨2, ![1, 3584]⟩ x h (ix2 (0 : Fin 1) b) = x (ix1 b) := by
  refine shapeCast_apply x h _ _ ?_
  rw [Shape.rowMajor_val_one, Shape.rowMajor_val_two]
  show b.val = 0 * 3584 + b.val
  omega

/-- Splitting the leading axis of `rows g` again gives `g`. -/
theorem cast_rows_back (g : FVec Ideal SR .bf16) (h : S2.ShapeCasts SR) : shapeCast SR (rows g) h = g := by
  funext i
  obtain ⟨b, s, n, rfl⟩ : ∃ (b : Fin 4) (s : Fin 2048) (n : Fin 3584), i = ix3 b s n := ⟨i 0, i 1, i 2, eq_ix3 i⟩
  refine (shapeCast_apply (rows g) h _ (ix2 (⟨b.val * 2048 + s.val, by omega⟩ : Fin 8192) n) ?_).trans ?_
  · rw [Shape.rowMajor_val_three, Shape.rowMajor_val_two]; rfl
  · show g (ix3 _ _ _) = _
    refine congrArg g (congr (congr (congrArg ix3 (Fin.ext ?_)) (Fin.ext ?_)) rfl)
    · show (b.val * 2048 + s.val) / 2048 = b.val; omega
    · show (b.val * 2048 + s.val) % 2048 = s.val; omega

end Cert.Spec

end
-- ==== Proof.Whole.lean ====
/-
  WHAT THE KERNEL'S RESULT HOLDS. The 8 × 7 blocks tile the merged result; each is the block of `Spec.spec` of the
  arguments, and the last reshape splits the merged axis again.
-/
module

public import proofs.«01_k».proof.Proof.Block
public import proofs.«01_k».proof.Proof.Spec
public import Idealize.ShloMosaic.Lib.StableHlo.Run

@[expose] public section

set_option maxRecDepth 16384

noncomputable section

namespace Cert.KernelIdeal.Whole

open Cert.KernelIdeal Cert.KernelIdeal.Gen Cert.KernelIdeal.Tile Cert.KernelIdeal.Block
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays at the region's entry: the arguments, reshaped -/

theorem V_main_v0 (c : Dev nD) :
    V m c main_v0 = shapeCast S8192x14336 (m ((c : Thread nD τ).loc main_arg0)) shapeCasts_S4x2048x14336_S8192x14336 := by
  show StableHlo.after hostOps0 _ (Proc.devRef .tc main_v0) = _
  after_results
  rfl
theorem V_main_v1 (c : Dev nD) :
    V m c main_v1 = shapeCast S64x128 (m ((c : Thread nD τ).loc main_arg1)) shapeCasts_S4x2048x1_S64x128 := by
  show StableHlo.after hostOps0 _ (Proc.devRef .tc main_v1) = _
  after_results
  rfl
theorem V_main_v2 (c : Dev nD) :
    V m c main_v2 = shapeCast S28x128 (m ((c : Thread nD τ).loc main_arg3)) shapeCasts_S3584_S28x128 := by
  show StableHlo.after hostOps0 _ (Proc.devRef .tc main_v2) = _
  after_results
  rfl
theorem V_main_v3 (c : Dev nD) :
    V m c main_v3 = shapeCast S8192x3584 (m ((c : Thread nD τ).loc main_arg4)) shapeCasts_S4x2048x3584_S8192x3584 := by
  show StableHlo.after hostOps0 _ (Proc.devRef .tc main_v3) = _
  after_results
  rfl

/-! ## The blocks, read at an index -/

/-- Point `t` is row block `t / 7`, column block `t % 7`. -/
theorem coords_eq : ∀ t : Fin grid0.N, (grid0.coords t 0).val = t.val / 7 ∧ (grid0.coords t 1).val = t.val % 7 := by
  decide +kernel
/-- The windows' block indices at point `t`. -/
theorem index_eq : ∀ t : Fin grid0.N,
    (win0_0.index t 0 = t.val / 7 ∧ win0_0.index t 1 = 0) ∧ (win0_1.index t 0 = 0 ∧ win0_1.index t 1 = 0)
    ∧ (win0_2.index t 0 = 0 ∧ win0_2.index t 1 = t.val % 7) ∧ (win0_3.index t 0 = 0 ∧ win0_3.index t 1 = 0)
    ∧ (win0_4.index t 0 = t.val / 7 ∧ win0_4.index t 1 = t.val % 7)
    ∧ (win0_5.index t 0 = t.val / 7 ∧ win0_5.index t 1 = t.val % 7) := by
  decide +kernel

theorem lt_N (t : Fin cfg0.N) : t.val < 56 := t.isLt

/-- The row of the merged arrays that row `p` of point `t`'s block is, -/
abbrev row (t : Fin cfg0.N) (p : Fin 1024) : Fin 8192 := ⟨t.val / 7 * 1024 + p.val, by have := lt_N t; omega⟩
/-- and the column that its column `q` is. -/
abbrev col (t : Fin cfg0.N) (q : Fin 512) : Fin 3584 := ⟨t.val % 7 * 512 + q.val, by omega⟩

theorem iblk0_apply (c : Dev nD) (t : Fin cfg0.N) (p : Fin 1024) (k : Fin 14336) :
    iblk m c 0 t (ix2 p k) = V m c main_v0 (ix2 (row t p) k) := by
  show V m c main_v0 ((win0_0.rect t).emb (ix2 p k)) = _
  refine congrArg (V m c main_v0) (Shape.idx_ext₂ ?_ ?_)
  · rw [win0_0.rect_emb_val, (index_eq t).1.1]; rfl
  · rw [win0_0.rect_emb_val, (index_eq t).1.2]; exact (Nat.zero_mul _ ▸ Nat.zero_add _ :)

theorem iblk2_apply (c : Dev nD) (t : Fin cfg0.N) (k : Fin 14336) (q : Fin 512) :
    iblk m c 2 t (ix2 k q) = V m c main_arg2 (ix2 k (col t q)) := by
  show V m c main_arg2 ((win0_2.rect t).emb (ix2 k q)) = _
  refine congrArg (V m c main_arg2) (Shape.idx_ext₂ ?_ ?_)
  · rw [win0_2.rect_emb_val, (index_eq t).2.2.1.1]; exact (Nat.zero_mul _ ▸ Nat.zero_add _ :)
  · rw [win0_2.rect_emb_val, (index_eq t).2.2.1.2]; rfl

theorem iblk4_apply (c : Dev nD) (t : Fin cfg0.N) (p : Fin 1024) (q : Fin 512) :
    iblk m c 4 t (ix2 p q) = V m c main_v3 (ix2 (row t p) (col t q)) := by
  show V m c main_v3 ((win0_4.rect t).emb (ix2 p q)) = _
  refine congrArg (V m c main_v3) (Shape.idx_ext₂ ?_ ?_)
  · rw [win0_4.rect_emb_val, (index_eq t).2.2.2.2.1.1]; rfl
  · rw [win0_4.rect_emb_val, (index_eq t).2.2.2.2.1.2]; rfl

/-- The eight rows of row scales the body loads at point `t`. -/
theorem ld1_apply (c : Dev nD) (t : Fin cfg0.N) (r : Fin 8) (p : Fin 128) :
    View.ld (iblk m c 1 t) (Rect.unit (s := S64x128) (k0_off1 (grid0.coords t)) S8x128.size (k0_off1_inb (grid0.coords t)))
        (ix2 r p)
      = V m c main_v1 (ix2 (⟨t.val / 7 * 8 + r.val, by have := lt_N t; omega⟩ : Fin 64) p) := by
  show V m c main_v1 ((win0_1.rect t).emb ((Rect.unit (s := S64x128) (k0_off1 (grid0.coords t)) S8x128.size
    (k0_off1_inb (grid0.coords t))).emb (ix2 r p))) = _
  refine congrArg (V m c main_v1) (Shape.idx_ext₂ ?_ ?_)
  · rw [win0_1.rect_emb_val_of_index_zero t 0 (index_eq t).2.1.1]
    show k0_off1 (grid0.coords t) 0 + 1 * r.val = t.val / 7 * 8 + r.val
    rw [k0_off1_eq]
    show 8 * (grid0.coords t 0).val + 1 * r.val = _
    rw [(coords_eq t).1]; omega
  · rw [win0_1.rect_emb_val_of_index_zero t 1 (index_eq t).2.1.2]
    show k0_off1 (grid0.coords t) 1 + 1 * p.val = p.val
    rw [k0_off1_eq]
    show 0 + 1 * p.val = _
    omega

/-- The four rows of column scales it loads there. -/
theorem ld3_apply (c : Dev nD) (t : Fin cfg0.N) (r : Fin 4) (q : Fin 128) :
    View.ld (iblk m c 3 t) (Rect.unit (s := S28x128) (k0_off2 (grid0.coords t)) S4x128.size (k0_off2_inb (grid0.coords t)))
        (ix2 r q)
      = V m c main_v2 (ix2 (⟨t.val % 7 * 4 + r.val, by omega⟩ : Fin 28) q) := by
  show V m c main_v2 ((win0_3.rect t).emb ((Rect.unit (s := S28x128) (k0_off2 (grid0.coords t)) S4x128.size
    (k0_off2_inb (grid0.coords t))).emb (ix2 r q))) = _
  refine congrArg (V m c main_v2) (Shape.idx_ext₂ ?_ ?_)
  · rw [win0_3.rect_emb_val_of_index_zero t 0 (index_eq t).2.2.2.1.1]
    show k0_off2 (grid0.coords t) 0 + 1 * r.val = t.val % 7 * 4 + r.val
    rw [k0_off2_eq]
    show 4 * (grid0.coords t 1).val + 1 * r.val = _
    rw [(coords_eq t).2]; omega
  · rw [win0_3.rect_emb_val_of_index_zero t 1 (index_eq t).2.2.2.1.2]
    show k0_off2 (grid0.coords t) 1 + 1 * q.val = q.val
    rw [k0_off2_eq]
    show 0 + 1 * q.val = _
    omega

/-! ## The merged result -/

/-- The down projection of core `c`'s arguments. -/
abbrev result (c : Dev nD) : FVec Ideal Spec.SR .bf16 :=
  Spec.spec (m ((c : Thread nD τ).loc main_arg0)) (m ((c : Thread nD τ).loc main_arg1)) (m ((c : Thread nD τ).loc main_arg2))
    (m ((c : Thread nD τ).loc main_arg3)) (m ((c : Thread nD τ).loc main_arg4))

/-- What point `t` leaves at `(p, q)` of its block is the merged result at that row and column. -/
theorem outsAt0_eq (c : Dev nD) (t : Fin cfg0.N) (p : Fin 1024) (q : Fin 512) :
    outsAt0 m c t (ix2 p q) = Spec.rows (result m c) (ix2 (row t p) (col t q)) := by
  rw [outsAt0_apply]
  unfold blockVal
  rw [product_apply, ld1_apply, ld3_apply, iblk4_apply]
  simp only [iblk0_apply, iblk2_apply]
  rw [V_main_v0, V_main_v1, V_main_v2, V_main_v3, V_main_arg2]
  simp only [Spec.cast_rows]
  rw [Spec.cast_row_scale, Spec.cast_col_scale]
  have er : t.val / 7 * 1024 + p.val = (t.val / 7 * 8 + p.val / 128) * 128 + p.val % 128 := by omega
  have ec : t.val % 7 * 512 + q.val = (t.val % 7 * 4 + q.val / 128) * 128 + q.val % 128 := by omega
  unfold Spec.rows result Spec.spec
  simp only [ix2_0, ix2_1, ix3_0, ix3_1, ix3_2, row, col, er, ec]

/-- An index of the merged result is in point `t`'s block iff its row and its column are. -/
theorem mem_blk (t : Fin cfg0.N) (i : S8192x3584.Idx) :
    i ∈ ((cfg0.win 5).blk t).view.set ↔ (t.val / 7 * 1024 ≤ (i 0 : Nat) ∧ (i 0 : Nat) < t.val / 7 * 1024 + 1024)
      ∧ (t.val % 7 * 512 ≤ (i 1 : Nat) ∧ (i 1 : Nat) < t.val % 7 * 512 + 512) := by
  show i ∈ ((View.whole main_v4).slice (win0_5.rect t)).set ↔ _
  rw [View.set_slice_whole, Rect.mem_set_unit]
  have e0 : win0_5.index t 0 * win0_5.size 0 = t.val / 7 * 1024 := by rw [(index_eq t).2.2.2.2.2.1]; rfl
  have e1 : win0_5.index t 1 * win0_5.size 1 = t.val % 7 * 512 := by rw [(index_eq t).2.2.2.2.2.2]; rfl
  refine ⟨fun h => ⟨?_, ?_⟩, fun h a => ?_⟩
  · have : win0_5.index t 0 * win0_5.size 0 ≤ (i 0 : Nat) ∧ (i 0 : Nat) < win0_5.index t 0 * win0_5.size 0 + 1024 := h 0
    rwa [e0] at this
  · have : win0_5.index t 1 * win0_5.size 1 ≤ (i 1 : Nat) ∧ (i 1 : Nat) < win0_5.index t 1 * win0_5.size 1 + 512 := h 1
    rwa [e1] at this
  · match a with
    | ⟨0, _⟩ => show win0_5.index t 0 * win0_5.size 0 ≤ (i 0 : Nat) ∧ (i 0 : Nat) < win0_5.index t 0 * win0_5.size 0 + 1024
                rw [e0]; exact h.1
    | ⟨1, _⟩ => show win0_5.index t 1 * win0_5.size 1 ≤ (i 1 : Nat) ∧ (i 1 : Nat) < win0_5.index t 1 * win0_5.size 1 + 512
                rw [e1]; exact h.2

/-- The blocks tile the merged result. -/
theorem cover (i : S8192x3584.Idx) :
    ∃ t : Fin cfg0.N, (cfg0.win 5).flush t = true ∧ i ∈ ((cfg0.win 5).blk t).view.set := by
  have h0 : (i 0 : Nat) < 8192 := (i 0).isLt
  have h1 : (i 1 : Nat) < 3584 := (i 1).isLt
  have ht : (i 0 : Nat) / 1024 * 7 + (i 1 : Nat) / 512 < cfg0.N := by
    show _ < 56
    omega
  refine ⟨⟨_, ht⟩, flush0_5 _, ?_⟩
  rw [mem_blk]
  dsimp only
  omega

/-- What point `t` writes back is its block of the merged result. -/
theorem flushed_eq (c : Dev nD) (t : Fin cfg0.N) :
    (dats m 0 c).flushed 5 t = ((cfg0.win 5).blk t).view.read (Elt Ideal) (Spec.rows (result m c)) := by
  show (cfg0.win 5).cut (grid0.coords t) ((dats m 0 c).after 5 t) = _
  rw [after0_5]
  funext y
  obtain ⟨p, q, rfl⟩ : ∃ (p : Fin 1024) (q : Fin 512), y = ix2 p q := ⟨y 0, y 1, eq_ix2 y⟩
  refine (outsAt0_eq m c t p q).trans ?_
  show _ = Spec.rows (result m c) ((win0_5.rect t).emb (ix2 p q))
  refine congrArg (Spec.rows (result m c)) (Shape.idx_ext₂ ?_ ?_)
  · rw [win0_5.rect_emb_val, (index_eq t).2.2.2.2.2.1]; rfl
  · rw [win0_5.rect_emb_val, (index_eq t).2.2.2.2.2.2]; rfl

/-- So the merged result ends as the down projection, -/
theorem final5 (c : Dev nD) : (dats m 0 c).arrAt 5 cfg0.N = Spec.rows (result m c) :=
  (dats m 0 c).arrAt_eq_of_cover 5 (Spec.rows (result m c)) (fun t _ => flushed_eq m c t) cover

/-- and the reshape after the region splits its leading axis. -/
theorem tail_eq (c : Dev nD) : Pipeline.afterTail₀ cfgs (dats m) 0 (V0 m) [hostOps1] c main_v5 = result m c := by
  show StableHlo.after hostOps1 _ (Proc.devRef .tc main_v5) = _
  after_results
  have e := (Pipeline.withArrays_arr spec0 launch0.win.arr_inj c (V0 m c) (fun w => (dats m 0 c).arrAt w cfg0.N) 5).trans
    (final5 m c)
  exact (congrArg (fun x => shapeCast S4x2048x3584 x shapeCasts_S8192x3584_S4x2048x3584) e).trans
    (Spec.cast_rows_back (result m c) shapeCasts_S8192x3584_S4x2048x3584)

/-- THE RUN: every execution ends with the result at the down projection of the arguments, which are unchanged. -/
theorem run : θ_run defs (onTc (τ := τ) (main (F := Ideal))) ⟨m, fun _ => 0, ρ⟩ (fun r => (∀ c : Dev nD,
      r.2.mem ((c.tc : Thread nD τ).loc main_v5) = result m c)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h =>
    ⟨fun c => ((h.1 c).2 main_v5 (Pipeline.mem_restRefs_of main_v5 (by decide) (by decide))).trans (tail_eq m c), h.2⟩)
    (θ_run_and (run_main m ρ) (unchanged m ρ))

end Cert.KernelIdeal.Whole

end
-- ==== Proof.Reference.lean ====
/-
  WHAT THE REFERENCE'S RESULT HOLDS. Its region has one point and takes every array whole; the value it stores is
  `Spec.spec` of the arguments, read at the merged row.
-/
module

public import proofs.«01_k».proof.Proof.Gen.ReferenceIdeal.Frame
public import proofs.«01_k».proof.Proof.Spec
public import Idealize.ShloMosaic.Lib.StableHlo.Run

@[expose] public section

set_option maxRecDepth 16384

noncomputable section

namespace Cert.ReferenceIdeal.Whole

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The stored value at row `p`, column `q`. -/
theorem stored_apply (x : Vec Ideal S8192x14336 .fp8e4m3) (w : Vec Ideal S14336x3584 .fp8e4m3) (xs : Vec Ideal S8192x1 .f32)
    (ws : Vec Ideal S1x3584 .f32) (res : Vec Ideal S8192x3584 .bf16) (p : Fin 8192) (q : Fin 3584) :
    k0_pay1 x w xs ws res (ix2 p q)
      = (∑ k : Fin 14336, x (ix2 p k) * w (ix2 k q)) * xs (ix2 p (0 : Fin 1)) * ws (ix2 (0 : Fin 1) q) + res (ix2 p q) := by
  pointwise [k0_pay1]

/-! ## The arrays at the region's entry: the arguments, reshaped -/

theorem V_main_v0 (c : Dev nD) :
    V m c main_v0 = shapeCast S8192x14336 (m ((c : Thread nD τ).loc main_arg0)) shapeCasts_S4x2048x14336_S8192x14336 := by
  show StableHlo.after hostOps0 _ (Proc.devRef .tc main_v0) = _
  after_results
  rfl
theorem V_main_v1 (c : Dev nD) :
    V m c main_v1 = shapeCast S8192x1 (m ((c : Thread nD τ).loc main_arg1)) shapeCasts_S4x2048x1_S8192x1 := by
  show StableHlo.after hostOps0 _ (Proc.devRef .tc main_v1) = _
  after_results
  rfl
theorem V_main_v2 (c : Dev nD) :
    V m c main_v2 = shapeCast S1x3584 (m ((c : Thread nD τ).loc main_arg3)) shapeCasts_S3584_S1x3584 := by
  show StableHlo.after hostOps0 _ (Proc.devRef .tc main_v2) = _
  after_results
  rfl
theorem V_main_v3 (c : Dev nD) :
    V m c main_v3 = shapeCast S8192x3584 (m ((c : Thread nD τ).loc main_arg4)) shapeCasts_S4x2048x3584_S8192x3584 := by
  show StableHlo.after hostOps0 _ (Proc.devRef .tc main_v3) = _
  after_results
  rfl

/-! ## The one block of each window is its whole array -/

theorem index_eq : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) := by
  decide +kernel

theorem iblk0_eq (c : Dev nD) (t : Fin cfg0.N) : iblk m c 0 t = V m c main_v0 :=
  funext fun y => congrArg (V m c main_v0)
    (funext fun a => Fin.ext (win0_0.rect_emb_val_of_index_zero t a ((index_eq t).1 a) y))
theorem iblk1_eq (c : Dev nD) (t : Fin cfg0.N) : iblk m c 1 t = V m c main_v1 :=
  funext fun y => congrArg (V m c main_v1)
    (funext fun a => Fin.ext (win0_1.rect_emb_val_of_index_zero t a ((index_eq t).2.1 a) y))
theorem iblk2_eq (c : Dev nD) (t : Fin cfg0.N) : iblk m c 2 t = V m c main_arg2 :=
  funext fun y => congrArg (V m c main_arg2)
    (funext fun a => Fin.ext (win0_2.rect_emb_val_of_index_zero t a ((index_eq t).2.2.1 a) y))
theorem iblk3_eq (c : Dev nD) (t : Fin cfg0.N) : iblk m c 3 t = V m c main_v2 :=
  funext fun y => congrArg (V m c main_v2)
    (funext fun a => Fin.ext (win0_3.rect_emb_val_of_index_zero t a ((index_eq t).2.2.2.1 a) y))
theorem iblk4_eq (c : Dev nD) (t : Fin cfg0.N) : iblk m c 4 t = V m c main_v3 :=
  funext fun y => congrArg (V m c main_v3)
    (funext fun a => Fin.ext (win0_4.rect_emb_val_of_index_zero t a ((index_eq t).2.2.2.2.1 a) y))

/-- The down projection of core `c`'s arguments. -/
abbrev result (c : Dev nD) : FVec Ideal Spec.SR .bf16 :=
  Spec.spec (m ((c : Thread nD τ).loc main_arg0)) (m ((c : Thread nD τ).loc main_arg1)) (m ((c : Thread nD τ).loc main_arg2))
    (m ((c : Thread nD τ).loc main_arg3)) (m ((c : Thread nD τ).loc main_arg4))

/-- What the region stores is the merged result. -/
theorem out_eq (c : Dev nD) (t : Fin cfg0.N) :
    out0_5 (iblk m c 0 t) (iblk m c 1 t) (iblk m c 2 t) (iblk m c 3 t) (iblk m c 4 t) = Spec.rows (result m c) := by
  unfold out0_5
  rw [View.canon_unit_zero hz, View.ld_unit_zero hz, View.ld_unit_zero hz, View.ld_unit_zero hz, View.ld_unit_zero hz,
    View.ld_unit_zero hz, iblk0_eq, iblk1_eq, iblk2_eq, iblk3_eq, iblk4_eq, V_main_v0, V_main_v1, V_main_v2, V_main_v3,
    V_main_arg2]
  funext y
  obtain ⟨p, q, rfl⟩ : ∃ (p : Fin 8192) (q : Fin 3584), y = ix2 p q := ⟨y 0, y 1, eq_ix2 y⟩
  rw [stored_apply]
  simp only [Spec.cast_rows]
  rw [Spec.cast_one_row]
  rfl

theorem flushed_eq (c : Dev nD) (t : Fin cfg0.N) :
    (dats m 0 c).flushed 5 t = ((cfg0.win 5).blk t).view.read (Elt Ideal) (Spec.rows (result m c)) := by
  show (cfg0.win 5).cut (grid0.coords t) ((dats m 0 c).after 5 t) = _
  rw [after0_5, out_eq]
  funext y
  show Spec.rows (result m c) y = Spec.rows (result m c) ((win0_5.rect t).emb y)
  exact congrArg (Spec.rows (result m c))
    (funext fun a => Fin.ext (win0_5.rect_emb_val_of_index_zero t a ((index_eq t).2.2.2.2.2 a) y).symm)

/-- The one block is the whole merged result. -/
theorem cover (i : S8192x3584.Idx) :
    ∃ t : Fin cfg0.N, (cfg0.win 5).flush t = true ∧ i ∈ ((cfg0.win 5).blk t).view.set := by
  have ht : 0 < cfg0.N := by decide
  refine ⟨⟨0, ht⟩, flush0_5 _, ?_⟩
  show i ∈ ((View.whole main_v4).slice (win0_5.rect ⟨0, ht⟩)).set
  rw [View.set_slice_whole, Rect.mem_set_unit]
  intro a
  have e : win0_5.index ⟨0, ht⟩ a * win0_5.size a = 0 := by rw [(index_eq ⟨0, ht⟩).2.2.2.2.2 a, Nat.zero_mul]
  show win0_5.index ⟨0, ht⟩ a * win0_5.size a ≤ (i a : Nat) ∧ (i a : Nat) < win0_5.index ⟨0, ht⟩ a * win0_5.size a + S8192x3584.size a
  rw [e, Nat.zero_add]
  exact ⟨Nat.zero_le _, (i a).isLt⟩

/-- So the merged result ends as the down projection, -/
theorem final5 (c : Dev nD) : (dats m 0 c).arrAt 5 cfg0.N = Spec.rows (result m c) :=
  (dats m 0 c).arrAt_eq_of_cover 5 (Spec.rows (result m c)) (fun t _ => flushed_eq m c t) cover

/-- and the reshape after the region splits its leading axis. -/
theorem tail_eq (c : Dev nD) : Pipeline.afterTail₀ cfgs (dats m) 0 (V0 m) [hostOps1] c main_v5 = result m c := by
  show StableHlo.after hostOps1 _ (Proc.devRef .tc main_v5) = _
  after_results
  have e := (Pipeline.withArrays_arr spec0 launch0.win.arr_inj c (V0 m c) (fun w => (dats m 0 c).arrAt w cfg0.N) 5).trans
    (final5 m c)
  exact (congrArg (fun x => shapeCast S4x2048x3584 x shapeCasts_S8192x3584_S4x2048x3584) e).trans
    (Spec.cast_rows_back (result m c) shapeCasts_S8192x3584_S4x2048x3584)

/-- THE RUN: every execution ends with the result at the down projection of the arguments, which are unchanged. -/
theorem run : θ_run defs (onTc (τ := τ) (main (F := Ideal))) ⟨m, fun _ => 0, ρ⟩ (fun r => (∀ c : Dev nD,
      r.2.mem ((c.tc : Thread nD τ).loc main_v5) = result m c)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h =>
    ⟨fun c => ((h.1 c).2 main_v5 (Pipeline.mem_restRefs_of main_v5 (by decide) (by decide))).trans (tail_eq m c), h.2⟩)
    (θ_run_and (run_main m ρ) (unchanged m ρ))

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Whole
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The two programs' results are one function, `Spec.spec`, of arguments that agree. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Whole.result m c,
    (θ_run _ _ _).mono (fun _ h c => ⟨h.1 c, h.2 c⟩) (Cert.KernelIdeal.Whole.run m g),
    (θ_run _ _ _).mono (fun _ h c => ⟨(h.1 c).trans ?_, h.2 c⟩) (Cert.ReferenceIdeal.Whole.run m' g')⟩
  obtain ⟨h0, h1, h2, h3, h4⟩ := hag c
  have e := congr (congr (congr (congr (congrArg Cert.Spec.spec h0) h1) h2) h3) h4
  exact e

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
